-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x8x16x128 : Shape := ⟨4, ![16, 8, 16, 128]⟩
abbrev S16x8x2048x128 : Shape := ⟨4, ![16, 8, 2048, 128]⟩
abbrev S_ : Shape := ⟨0, ![]⟩
abbrev S128x16x128 : Shape := ⟨3, ![128, 16, 128]⟩
abbrev S128x2048x128 : Shape := ⟨3, ![128, 2048, 128]⟩
abbrev S1 : Shape := ⟨1, ![1]⟩
abbrev S2x2048x128 : Shape := ⟨3, ![2, 2048, 128]⟩
abbrev S2x16x128 : Shape := ⟨3, ![2, 16, 128]⟩
abbrev S2048x16 : Shape := ⟨2, ![2048, 16]⟩
abbrev S2048x1 : Shape := ⟨2, ![2048, 1]⟩
abbrev S1x16x128 : Shape := ⟨3, ![1, 16, 128]⟩
abbrev S16x128 : Shape := ⟨2, ![16, 128]⟩
abbrev S2048x128 : Shape := ⟨2, ![2048, 128]⟩
abbrev S1x2048x128 : Shape := ⟨3, ![1, 2048, 128]⟩

abbrev nBuf : Space → Nat
  | .hbm => 30
  | .vmem => 12
  | .smem => 1
  | _ => 0

abbrev bufTy : (tb : Table) → Fin (tcTables nBuf tb) → BufTy
  | .hbm, ⟨0, _⟩ => ⟨S16x8x16x128, .f32⟩
  | .hbm, ⟨1, _⟩ => ⟨S16x8x16x128, .f32⟩
  | .hbm, ⟨2, _⟩ => ⟨S16x8x2048x128, .f32⟩
  | .hbm, ⟨3, _⟩ => ⟨S16x8x2048x128, .f32⟩
  | .hbm, ⟨4, _⟩ => ⟨S_, .i32⟩
  | .hbm, ⟨5, _⟩ => ⟨S128x16x128, .f32⟩
  | .hbm, ⟨6, _⟩ => ⟨S128x16x128, .f32⟩
  | .hbm, ⟨7, _⟩ => ⟨S128x2048x128, .f32⟩
  | .hbm, ⟨8, _⟩ => ⟨S128x2048x128, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i1⟩
  | .hbm, ⟨22, _⟩ => ⟨S_, .i1⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128x2048x128, .f32⟩
  | .hbm, ⟨27, _⟩ => ⟨S128x2048x128, .f32⟩
  | .hbm, ⟨28, _⟩ => ⟨S16x8x2048x128, .f32⟩
  | .hbm, ⟨29, _⟩ => ⟨S16x8x2048x128, .f32⟩
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S2x2048x128, .f32⟩
  | .local _ .vmem, ⟨4, _⟩ => ⟨S2x16x128, .f32⟩
  | .local _ .vmem, ⟨5, _⟩ => ⟨S2x16x128, .f32⟩
  | .local _ .vmem, ⟨6, _⟩ => ⟨S2x16x128, .f32⟩
  | .local _ .vmem, ⟨7, _⟩ => ⟨S2x16x128, .f32⟩
  | .local _ .vmem, ⟨8, _⟩ => ⟨S2x2048x128, .f32⟩
  | .local _ .vmem, ⟨9, _⟩ => ⟨S2x2048x128, .f32⟩
  | .local _ .vmem, ⟨10, _⟩ => ⟨S2x2048x128, .f32⟩
  | .local _ .vmem, ⟨11, _⟩ => ⟨S2x2048x128, .f32⟩
  | .local _ .smem, ⟨0, _⟩ => ⟨S1, .i32⟩
  | _, _ => ⟨S16x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_c_1 : Ref sig .tc := ⟨.hbm, 16, rfl⟩
abbrev main_call0_v4 : Ref sig .tc := ⟨.hbm, 17, rfl⟩
abbrev main_call0_c_2 : Ref sig .tc := ⟨.hbm, 18, rfl⟩
abbrev main_call0_v5 : Ref sig .tc := ⟨.hbm, 19, rfl⟩
abbrev main_call0_c_3 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_v4 : Ref sig .tc := ⟨.hbm, 25, rfl⟩
abbrev main_v6_0 : Ref sig .tc := ⟨.hbm, 26, rfl⟩
abbrev main_v6_1 : Ref sig .tc := ⟨.hbm, 27, rfl⟩
abbrev main_v7 : Ref sig .tc := ⟨.hbm, 28, rfl⟩
abbrev main_v8 : Ref sig .tc := ⟨.hbm, 29, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x8x16x128 : Shape := ⟨4, ![16, 8, 16, 128]⟩
abbrev S16x8x2048x128 : Shape := ⟨4, ![16, 8, 2048, 128]⟩
abbrev S_ : Shape := ⟨0, ![]⟩
abbrev S16 : Shape := ⟨1, ![16]⟩
abbrev S16x1 : Shape := ⟨2, ![16, 1]⟩

abbrev nBuf : Space → Nat
  | .hbm => 48
  | .vmem => 0
  | .smem => 0
  | _ => 0

abbrev bufTy : (tb : Table) → Fin (tcTables nBuf tb) → BufTy
  | .hbm, ⟨0, _⟩ => ⟨S16x8x16x128, .f32⟩
  | .hbm, ⟨1, _⟩ => ⟨S16x8x16x128, .f32⟩
  | .hbm, ⟨2, _⟩ => ⟨S16x8x2048x128, .f32⟩
  | .hbm, ⟨3, _⟩ => ⟨S16x8x2048x128, .f32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S_, .i1⟩
  | .hbm, ⟨24, _⟩ => ⟨S16, .i1⟩
  | .hbm, ⟨25, _⟩ => ⟨S16, .i1⟩
  | .hbm, ⟨26, _⟩ => ⟨S16, .i1⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i1⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S16, .i32⟩
  | .hbm, ⟨37, _⟩ => ⟨S16x1, .i32⟩
  | .hbm, ⟨38, _⟩ => ⟨S16x8x2048x128, .f32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S16x1, .i32⟩
  | .hbm, ⟨47, _⟩ => ⟨S16x8x2048x128, .f32⟩
  | _, _ => ⟨S16x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_c_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩

abbrev nD : Nat := 1
abbrev τ : Topo := Topo.v7x

variable {F : FTy → Type} [FloatOps F]
-- ==== Proof.Words.lean ====
/-
  The integer arithmetic of the ring buffer: the 32-bit words by which the two programs find a slot, read as natural numbers.

  Both programs take `x % 2048` as jax prints it (the signed remainder, moved up by 2048 when it is negative). Since 2048 divides
  `2 ^ 32`, that word is `x` modulo 2048 for EVERY word `x` read unsigned, so neither a negative position nor a sum that wraps
  around asks for a hypothesis.
-/
module

public import Idealize.ShloMosaic.Lib.Affine
public import Idealize.ShloMosaic.Lib.ValueIdx

@[expose] public section

namespace Cert.RingWords

open Idealize.ShloMosaic

/-- The divisor as the host programs compute it: 2048, or 1 were it zero. -/
def divisor : BitVec 32 := Scalar.select (IntOp.cmpi .eq 2048#32 0#32) 1#32 2048#32

/-- The remainder with the divisor's sign, as the host programs compute it from the signed remainder `r`. -/
def floorOf (r : BitVec 32) : BitVec 32 :=
  Scalar.select (IntOp.andi (IntOp.cmpi .ne (IntOp.cmpi .slt r 0#32) (IntOp.cmpi .slt divisor 0#32)) (IntOp.cmpi .ne r 0#32))
    (IntOp.addi r divisor) r

/-- `x % 2048` as the host programs compute it. -/
def floorMod (x : BitVec 32) : BitVec 32 := floorOf (IntOp.remsi .host x divisor)

/-- The divisor is 2048. -/
theorem divisor_eq : divisor = 2048#32 := by decide

/-- The comparison `x < 0`, read signed: the word's upper half. -/
theorem slt_zero (x : BitVec 32) : IntOp.cmpi .slt x 0#32 = BitVec.ofBool (decide (2 ^ 31 ≤ x.toNat)) := by
  show BitVec.ofBool (x.slt 0#32) = _
  congr 1
  rw [BitVec.slt_eq_decide, decide_eq_decide, BitVec.toInt_eq_toNat_cond]
  have := x.isLt
  have h0 : (0#32 : BitVec 32).toInt = 0 := rfl
  rw [h0]
  split <;> omega

/-- The signed remainder by 2048, read signed: truncated division's remainder. -/
theorem toInt_rem (x : BitVec 32) : (IntOp.remsi .host x divisor).toInt = x.toInt.tmod 2048 := by
  rw [divisor_eq, IntOp.remsi_of_pos .host (by decide), BitVec.toInt_srem]
  rfl

/-- The correction of a signed remainder `r` between -2047 and 2047: `r` when it is not negative, `r + 2048` otherwise. -/
theorem toNat_floorOf (r : BitVec 32) (h : -2048 < r.toInt) (h' : r.toInt < 2048) :
    ((floorOf r).toNat : Int) = if r.toInt < 0 then r.toInt + 2048 else r.toInt := by
  have hr := r.isLt
  have hcond := BitVec.toInt_eq_toNat_cond r
  unfold floorOf
  rw [divisor_eq, slt_zero, show IntOp.cmpi .slt 2048#32 0#32 = 0#1 from by decide]
  by_cases hn : 2 ^ 31 ≤ r.toNat
  · have hneg : r.toInt = (r.toNat : Int) - 2 ^ 32 := by rw [hcond, if_neg (by omega)]; rfl
    have hne : r ≠ 0#32 := fun e => by rw [e] at hn; exact absurd hn (by decide)
    have hc : IntOp.andi (IntOp.cmpi .ne (BitVec.ofBool (decide (2 ^ 31 ≤ r.toNat))) 0#1) (IntOp.cmpi .ne r 0#32) = 1#1 := by
      rw [decide_eq_true hn]
      show IntOp.andi (IntOp.cmpi .ne 1#1 0#1) (BitVec.ofBool (r != 0#32)) = 1#1
      rw [show (r != 0#32) = true from bne_iff_ne.2 hne]
      rfl
    rw [hc]
    show ((r + 2048#32).toNat : Int) = _
    rw [BitVec.toNat_add, show (2048#32 : BitVec 32).toNat = 2048 from rfl, if_pos (by omega)]
    omega
  · have hpos : r.toInt = (r.toNat : Int) := by rw [hcond, if_pos (by omega)]
    have hc : IntOp.andi (IntOp.cmpi .ne (BitVec.ofBool (decide (2 ^ 31 ≤ r.toNat))) 0#1) (IntOp.cmpi .ne r 0#32) = 0#1 := by
      rw [decide_eq_false hn]
      show IntOp.andi (IntOp.cmpi .ne 0#1 0#1) _ = 0#1
      rw [show IntOp.cmpi .ne 0#1 0#1 = 0#1 from by decide]
      show 0#1 &&& _ = 0#1
      exact BitVec.zero_and
    rw [hc, if_neg (by omega)]
    show ((r.toNat : Nat) : Int) = _
    omega

/-- `x % 2048` as the host programs compute it is `x`, read unsigned, modulo 2048, whatever the word `x`. -/
theorem toNat_floorMod (x : BitVec 32) : (floorMod x).toNat = x.toNat % 2048 := by
  have hx := x.isLt
  have hcond := BitVec.toInt_eq_toNat_cond x
  have ht := toInt_rem x
  have e : (IntOp.remsi .host x divisor).toInt = if 0 ≤ x.toInt then x.toInt % 2048 else -((-x.toInt) % 2048) := by
    rw [ht]
    by_cases h : 0 ≤ x.toInt
    · rw [if_pos h, Int.tmod_eq_emod_of_nonneg h]
    · rw [if_neg h]
      have : x.toInt = -(-x.toInt) := by omega
      rw [this, Int.neg_tmod, Int.tmod_eq_emod_of_nonneg (by omega), neg_neg]
  have := toNat_floorOf (IntOp.remsi .host x divisor) (by rw [e]; split <;> omega) (by rw [e]; split <;> omega)
  unfold floorMod
  rw [e] at this
  split at hcond <;> split at this <;> split at this <;> omega

/-- The kernel's distance from the start to a row, going up the ring: `row - start`, moved up by 2048 when it is negative. -/
def dist (start : BitVec 32) (row : Nat) : BitVec 32 :=
  Scalar.select (IntOp.cmpi .slt (IntOp.subi (BitVec.ofNat 32 row) start) 0#32)
    (IntOp.addi (IntOp.subi (BitVec.ofNat 32 row) start) 2048#32) (IntOp.subi (BitVec.ofNat 32 row) start)

/-- Read unsigned, the distance is `row - start` modulo 2048. -/
theorem toNat_dist (start : BitVec 32) (row : Nat) (hs : start.toNat < 2048) (hr : row < 2048) :
    (dist start row).toNat = (row + 2048 - start.toNat) % 2048 := by
  have hsub : (IntOp.subi (BitVec.ofNat 32 row) start).toNat = (2 ^ 32 - start.toNat + row) % 2 ^ 32 := by
    show (BitVec.ofNat 32 row - start).toNat = _
    rw [BitVec.toNat_sub, BitVec.toNat_ofNat, Nat.mod_eq_of_lt (show row < 2 ^ 32 by omega)]
  unfold dist
  rw [slt_zero, hsub]
  by_cases h : start.toNat ≤ row
  · rw [decide_eq_false (by omega)]
    show (IntOp.subi (BitVec.ofNat 32 row) start).toNat = _
    rw [hsub]
    omega
  · rw [decide_eq_true (by omega)]
    show (IntOp.subi (BitVec.ofNat 32 row) start + 2048#32).toNat = _
    rw [BitVec.toNat_add, hsub, show (2048#32 : BitVec 32).toNat = 2048 from rfl]
    omega

/-- A word below 2048 compared with 16, read signed. -/
theorem slt_sixteen (x : BitVec 32) (h : x.toNat < 2048) : IntOp.cmpi .slt x 16#32 = BitVec.ofBool (decide (x.toNat < 16)) := by
  show BitVec.ofBool (x.slt 16#32) = _
  congr 1
  rw [BitVec.slt_eq_decide, decide_eq_decide, BitVec.toInt_eq_toNat_of_lt (by omega)]
  have h0 : (16#32 : BitVec 32).toInt = 16 := rfl
  rw [h0]
  omega

/-- The slot of the `i`-th new row, as the reference computes it: `(position + i) % 2048`, moved up by 2048 were it negative. -/
def slot (pos : BitVec 32) (i : Nat) : BitVec 32 :=
  Scalar.select (IntOp.cmpi .slt (floorMod (IntOp.addi pos (BitVec.ofNat 32 i))) 0#32)
    (IntOp.addi (floorMod (IntOp.addi pos (BitVec.ofNat 32 i))) 2048#32) (floorMod (IntOp.addi pos (BitVec.ofNat 32 i)))

/-- Read signed, the slot is `position + i` modulo 2048, the position read unsigned. -/
theorem toInt_slot (pos : BitVec 32) (i : Nat) (hi : i < 16) : (slot pos i).toInt = (((pos.toNat + i) % 2048 : Nat) : Int) := by
  have hf : (floorMod (IntOp.addi pos (BitVec.ofNat 32 i))).toNat = (pos.toNat + i) % 2048 := by
    rw [toNat_floorMod]
    show (pos + BitVec.ofNat 32 i).toNat % 2048 = _
    rw [BitVec.toNat_add, BitVec.toNat_ofNat]
    omega
  unfold slot
  rw [slt_zero, decide_eq_false (by omega)]
  show (floorMod (IntOp.addi pos (BitVec.ofNat 32 i))).toInt = _
  rw [BitVec.toInt_eq_toNat_of_lt (by omega), hf]

/-- How far row `row` lies above the position's slot, going up the ring of 2048. -/
def ahead (pos : BitVec 32) (row : Nat) : Nat := (row + 2048 - pos.toNat % 2048) % 2048

/-- The `i`-th new row goes to `row` exactly when `row` lies `i` above the position's slot. -/
theorem slot_eq_iff (pos : BitVec 32) (i row : Nat) (hi : i < 16) (hr : row < 2048) :
    (pos.toNat + i) % 2048 = row ↔ ahead pos row = i := by
  unfold ahead
  omega

/-- The kernel's distance from `position % 2048` is `ahead`. -/
theorem toNat_dist_floorMod (pos : BitVec 32) (row : Nat) (hr : row < 2048) :
    (dist (floorMod pos) row).toNat = ahead pos row := by
  rw [toNat_dist _ _ (by rw [toNat_floorMod]; omega) hr, toNat_floorMod]
  rfl

end Cert.RingWords

end
-- ==== Proof.Payload.lean ====
/-
  What the kernel body computes for one of a block's two planes, over the extended reals, read at an index.

  The body moves the sixteen new rows to their slots by a product with a one-hot matrix (entry (row, i) is 1 when `row` lies `i`
  above the start and 0 otherwise) and keeps the cache elsewhere. Over the extended reals `0 * x = 0` for every `x`, the infinities
  included, so a row of that product is exactly the new row it selects.
-/
module

public import proofs.«01_k».proof.Proof.Gen.KernelIdeal.Skeleton
public import proofs.«01_k».proof.Proof.Words
public import Idealize.ShloMosaic.Lib.MatmulPlain
public import Idealize.ShloMosaic.Lib.Pipeline.Value

@[expose] public section

noncomputable section

namespace Cert.KernelPayload

open Idealize.ShloMosaic Idealize.ShloMosaic.ValueIdx
open Cert.KernelIdeal Cert.KernelIdeal.Gen Cert.RingWords

/-- One plane of the result: the new row that lies `dist` above the start where that is below sixteen, the cache elsewhere. -/
def plane (start : BitVec 32) (new : (⟨2, ![16, 128]⟩ : Shape).Idx → EReal) (cache : (⟨2, ![2048, 128]⟩ : Shape).Idx → EReal)
    (row : Fin 2048) (h : Fin 128) : EReal :=
  if hd : (dist start row).toNat < 16 then new (ix2 ⟨(dist start row).toNat, hd⟩ h) else cache (ix2 row h)

/-- Each row's distance from the start, the same in all sixteen columns. -/
theorem dist_apply (start : BitVec 32) (row : Fin 2048) (i : Fin 16) : k0_pay4 (F := Ideal) start (ix2 row i) = dist start row := by
  unfold k0_pay4
  simp only [select_apply]
  show Scalar.select (IntOp.cmpi .slt (IntOp.subi (iota .tc S2048x16 32 [0] iota_S2048x16_d0_w32 (ix2 row i)) start) 0#32)
    (IntOp.addi (IntOp.subi (iota .tc S2048x16 32 [0] iota_S2048x16_d0_w32 (ix2 row i)) start) 2048#32)
    (IntOp.subi (iota .tc S2048x16 32 [0] iota_S2048x16_d0_w32 (ix2 row i)) start) = _
  rw [iota_single_apply]
  rfl

/-- The one-hot matrix: 1 where the row lies `i` above the start, 0 elsewhere. -/
theorem oneHot_apply (start : BitVec 32) (row : Fin 2048) (i : Fin 16) :
    k0_pay5 (F := Ideal) start (ix2 row i) = if (dist start row).toNat = i.val then (1 : EReal) else 0 := by
  unfold k0_pay5
  show (((BitVec.setWidth 32 (IntOp.cmpi .eq (k0_pay4 (F := Ideal) start (ix2 row i))
    (iota .tc S2048x16 32 [1] iota_S2048x16_d1_w32 (ix2 row i)))).toInt : ℝ) : EReal) = _
  rw [iota_single_apply, dist_apply]
  show (((BitVec.setWidth 32 (BitVec.ofBool (dist start row == BitVec.ofNat 32 i.val))).toInt : ℝ) : EReal) = _
  have hi : i.val < 16 := i.isLt
  by_cases h : (dist start row).toNat = i.val
  · have e : dist start row = BitVec.ofNat 32 i.val := BitVec.eq_of_toNat_eq (by rw [h, BitVec.toNat_ofNat]; omega)
    rw [if_pos h, beq_iff_eq.2 e]
    have : (BitVec.setWidth 32 (BitVec.ofBool true)).toInt = 1 := by decide
    rw [this]
    simp
  · have e : (dist start row == BitVec.ofNat 32 i.val) = false :=
      beq_eq_false_iff_ne.2 fun e => h (by rw [e, BitVec.toNat_ofNat]; omega)
    rw [if_neg h, e]
    have : (BitVec.setWidth 32 (BitVec.ofBool false)).toInt = 0 := by decide
    rw [this]
    simp

/-- The mask: set in the rows less than sixteen above the start. -/
theorem mask_apply (start : BitVec 32) (hs : start.toNat < 2048) (row : Fin 2048) :
    k0_pay6 (F := Ideal) start (ix2 row (0 : Fin 1)) = BitVec.ofBool (decide ((dist start row).toNat < 16)) := by
  unfold k0_pay6
  refine (extractStridedSlice_apply _ _ _ _ (ix2 row (0 : Fin 16)) fun a => ?_).trans ?_
  · match a with
    | ⟨0, _⟩ => show row.val = 0 + row.val; omega
    | ⟨1, _⟩ => rfl
  show IntOp.cmpi .slt (k0_pay4 (F := Ideal) start (ix2 row (0 : Fin 16))) 16#32 = _
  rw [dist_apply, slt_sixteen _ (by rw [toNat_dist _ _ hs row.isLt]; omega)]

/-- The product of the one-hot matrix with the new rows, in a row less than sixteen above the start: the new row it selects. -/
theorem product_apply (start : BitVec 32) (new : FVec Ideal S16x128 .f32) (row : Fin 2048) (h : Fin 128) (hd : (dist start row).toNat < 16) :
    matmul dot_S2048x16_S16x128_S2048x128_1_0_0_1_n_n none (k0_pay5 (F := Ideal) start) new (constant S2048x128 .f32 0x00000000#32) (ix2 row h)
      = new (ix2 ⟨(dist start row).toNat, hd⟩ h) := by
  refine (Ideal.matmul_plain_apply (M := 2048) (K := 16) (N := 128) none (k0_pay5 (F := Ideal) start) new
    (constant S2048x128 .f32 0x00000000#32) row h).trans ?_
  rw [constant_apply, Ideal.ofBits_zero_f32, zero_add, Finset.sum_eq_single (⟨(dist start row).toNat, hd⟩ : Fin 16)]
  · rw [oneHot_apply, if_pos rfl, one_mul]
  · intro i _ hi
    rw [oneHot_apply, if_neg fun e => hi (Fin.ext e.symm), zero_mul]
  · intro hn
    exact absurd (Finset.mem_univ _) hn

/-- A plane as the body computes it, read at an index: `plane` of the two operands without their leading unit axis. -/
theorem merged_apply (start : BitVec 32) (hs : start.toNat < 2048) (new : FVec Ideal S1x16x128 .f32) (cache : FVec Ideal S1x2048x128 .f32)
    (row : Fin 2048) (h : Fin 128) :
    k0_pay8 (F := Ideal) start new cache (ix2 row h)
      = plane start (fun j => new (ix3 (0 : Fin 1) (j 0) (j 1))) (fun j => cache (ix3 (0 : Fin 1) (j 0) (j 1))) row h := by
  have hc : ∀ (a : Fin 2048) (b : Fin 128), shapeCast S2048x128 cache shapeCasts_S1x2048x128_S2048x128 (ix2 a b) = cache (ix3 (0 : Fin 1) a b) :=
    fun a b => (shapeCast_dropUnit_apply ![2048, 128] cache shapeCasts_S1x2048x128_S2048x128 (ix2 a b)).trans
      (congrArg cache (funext fun d => match d with | ⟨0, _⟩ => rfl | ⟨1, _⟩ => rfl | ⟨2, _⟩ => rfl))
  have hn : ∀ (a : Fin 16) (b : Fin 128), shapeCast S16x128 new shapeCasts_S1x16x128_S16x128 (ix2 a b) = new (ix3 (0 : Fin 1) a b) :=
    fun a b => (shapeCast_dropUnit_apply ![16, 128] new shapeCasts_S1x16x128_S16x128 (ix2 a b)).trans
      (congrArg new (funext fun d => match d with | ⟨0, _⟩ => rfl | ⟨1, _⟩ => rfl | ⟨2, _⟩ => rfl))
  have hm : broadcastTo S2048x128 (shapeCast S2048x1 (k0_pay6 (F := Ideal) start) shapeCasts_S2048x1_S2048x1) broadcasts_S2048x1_S2048x128 (ix2 row h)
      = BitVec.ofBool (decide ((dist start row).toNat < 16)) := by
    rw [shapeCast_self]
    refine (broadcastTo_apply _ _ _ (ix2 row (0 : Fin 1)) fun a => ?_).trans (mask_apply start hs row)
    match a with
    | ⟨0, _⟩ => rfl
    | ⟨1, _⟩ => rfl
  unfold k0_pay8 plane
  dsimp only
  rw [select_apply, hm]
  by_cases hd : (dist start row).toNat < 16
  · rw [dif_pos hd, decide_eq_true hd]
    exact (product_apply start _ row h hd).trans (hn _ _)
  · rw [dif_neg hd, decide_eq_false hd]
    exact hc row h

/-- A plane stored with its leading unit axis reads the plane. -/
theorem addUnit_apply (v : FVec Ideal S2048x128 .f32) (row : Fin 2048) (h : Fin 128) :
    k0_pay1 v (ix3 (0 : Fin 1) row h) = v (ix2 row h) := by
  unfold k0_pay1
  exact (shapeCast_addUnit_apply ![2048, 128] v shapeCasts_S2048x128_S1x2048x128 (ix3 (0 : Fin 1) row h)).trans
    (congrArg v (funext fun d => match d with | ⟨0, _⟩ => rfl | ⟨1, _⟩ => rfl))

/-- The stores of the four planes are all of this one form: the value merged from the new rows and the cache, stored with a leading unit axis. -/
theorem stored_eq (start : BitVec 32) (new : FVec Ideal S1x16x128 .f32) (cache : FVec Ideal S1x2048x128 .f32) :
    k0_pay7 (F := Ideal) start new cache = k0_pay1 (k0_pay8 (F := Ideal) start new cache)
      ∧ k0_pay2 (k0_pay5 start) (k0_pay6 (F := Ideal) start) new cache = k0_pay1 (k0_pay8 (F := Ideal) start new cache)
      ∧ k0_pay3 (k0_pay5 start) (k0_pay6 (F := Ideal) start) new cache = k0_pay1 (k0_pay8 (F := Ideal) start new cache) :=
  ⟨rfl, rfl, rfl⟩

/-- A stored plane read at an index. -/
theorem stored_apply (start : BitVec 32) (hs : start.toNat < 2048) (new : FVec Ideal S1x16x128 .f32) (cache : FVec Ideal S1x2048x128 .f32)
    (row : Fin 2048) (h : Fin 128) :
    k0_pay1 (k0_pay8 (F := Ideal) start new cache) (ix3 (0 : Fin 1) row h)
      = plane start (fun j => new (ix3 (0 : Fin 1) (j 0) (j 1))) (fun j => cache (ix3 (0 : Fin 1) (j 0) (j 1))) row h :=
  (addUnit_apply _ row h).trans (merged_apply start hs new cache row h)

end Cert.KernelPayload

end
-- ==== Proof.Block.lean ====
/-
  What one point of the kernel's grid leaves in its two result blocks, over the extended reals.

  A block holds two planes, stored one after the other; each is the merge (`KernelPayload.plane`) of that plane's new rows and that
  plane's cache. So either result block is ONE function of the start word and of the two blocks the point reads.
-/
module

public import proofs.«01_k».proof.Proof.Gen.KernelIdeal.Frame
public import proofs.«01_k».proof.Proof.Payload

@[expose] public section

noncomputable section

namespace Cert.KernelBlock

open Idealize.ShloMosaic Idealize.ShloMosaic.TcCoe Idealize.ShloMosaic.Tactic Idealize.ShloMosaic.ValueIdx
open Cert.KernelIdeal Cert.KernelIdeal.Gen Cert.KernelPayload

/-- A result block: at each of its planes, the merge of that plane's new rows and cache. -/
def block (start : BitVec 32) (new : (⟨3, ![2, 16, 128]⟩ : Shape).Idx → EReal) (cache : (⟨3, ![2, 2048, 128]⟩ : Shape).Idx → EReal)
    (y : (⟨3, ![2, 2048, 128]⟩ : Shape).Idx) : EReal :=
  plane start (fun j => new (ix3 (y 0) (j 0) (j 1))) (fun j => cache (ix3 (y 0) (j 0) (j 1))) (y 1) (y 2)

/-- A plane stored at plane `p` of the block, computed from the blocks' planes `p`, reads `block` there. -/
theorem stored_eq_block (start : BitVec 32) (hs : start.toNat < 2048) (new : Vec Ideal S2x16x128 .f32) (cache : Vec Ideal S2x2048x128 .f32)
    (p : Nat) (hp : p < 2) (hn : ∀ a, (![p, 0, 0] : Fin 3 → Nat) a + S1x16x128.size a ≤ S2x16x128.size a)
    (hc : ∀ a, (![p, 0, 0] : Fin 3 → Nat) a + S1x2048x128.size a ≤ S2x2048x128.size a) (x : S1x2048x128.Idx) :
    k0_pay1 (k0_pay8 (F := Ideal) start (View.ld new (Rect.unit (s := S2x16x128) ![p, 0, 0] S1x16x128.size hn))
        (View.ld cache (Rect.unit (s := S2x2048x128) ![p, 0, 0] S1x2048x128.size hc))) x
      = block start new cache ((Rect.unit (s := S2x2048x128) ![p, 0, 0] S1x2048x128.size hc).emb x) := by
  have h0 : (x 0).val = 0 := by have : (x 0).val < 1 := (x 0).isLt; omega
  have ex : x = ix3 (0 : Fin 1) (x 1) (x 2) := by
    funext a
    match a with
    | ⟨0, _⟩ => exact Fin.ext h0
    | ⟨1, _⟩ => rfl
    | ⟨2, _⟩ => rfl
  have ee : (Rect.unit (s := S2x2048x128) ![p, 0, 0] S1x2048x128.size hc).emb x = ix3 (⟨p, hp⟩ : Fin 2) (x 1) (x 2) := by
    funext a
    refine Fin.ext ?_
    match a with
    | ⟨0, _⟩ => show p + 1 * (x 0).val = p; omega
    | ⟨1, _⟩ => show 0 + 1 * (x 1).val = (x 1).val; omega
    | ⟨2, _⟩ => show 0 + 1 * (x 2).val = (x 2).val; omega
  have en : ∀ (a : Fin 16) (b : Fin 128), View.ld new (Rect.unit (s := S2x16x128) ![p, 0, 0] S1x16x128.size hn) (ix3 (0 : Fin 1) a b) = new (ix3 (⟨p, hp⟩ : Fin 2) a b) := by
    intro a b
    refine congrArg new (funext fun d => Fin.ext ?_)
    match d with
    | ⟨0, _⟩ => show p + 1 * 0 = p; omega
    | ⟨1, _⟩ => show 0 + 1 * a.val = a.val; omega
    | ⟨2, _⟩ => show 0 + 1 * b.val = b.val; omega
  have ec : ∀ (a : Fin 2048) (b : Fin 128), View.ld cache (Rect.unit (s := S2x2048x128) ![p, 0, 0] S1x2048x128.size hc) (ix3 (0 : Fin 1) a b) = cache (ix3 (⟨p, hp⟩ : Fin 2) a b) := by
    intro a b
    refine congrArg cache (funext fun d => Fin.ext ?_)
    match d with
    | ⟨0, _⟩ => show p + 1 * 0 = p; omega
    | ⟨1, _⟩ => show 0 + 1 * a.val = a.val; omega
    | ⟨2, _⟩ => show 0 + 1 * b.val = b.val; omega
  rw [ee, ex]
  refine (stored_apply start hs _ _ (x 1) (x 2)).trans ?_
  unfold block
  congr 1
  · exact funext fun j => en (j 0) (j 1)
  · exact funext fun j => ec (j 0) (j 1)

/-- The store of plane `p`: its rectangle and what it stores. -/
def piece (start : BitVec 32) (new : Vec Ideal S2x16x128 .f32) (cache : Vec Ideal S2x2048x128 .f32)
    (p : Nat) (hn : ∀ a, (![p, 0, 0] : Fin 3 → Nat) a + S1x16x128.size a ≤ S2x16x128.size a)
    (hc : ∀ a, (![p, 0, 0] : Fin 3 → Nat) a + S1x2048x128.size a ≤ S2x2048x128.size a) : View.Piece (Elt Ideal) S2x2048x128 .f32 :=
  ⟨Rect.unit (s := S2x2048x128) ![p, 0, 0] S1x2048x128.size hc,
    k0_pay1 (k0_pay8 (F := Ideal) start (View.ld new (Rect.unit (s := S2x16x128) ![p, 0, 0] S1x16x128.size hn))
      (View.ld cache (Rect.unit (s := S2x2048x128) ![p, 0, 0] S1x2048x128.size hc)))⟩

/-- What a plane's store stores is `block` at the plane's indices. -/
theorem piece_eq_block (start : BitVec 32) (hs : start.toNat < 2048) (new : Vec Ideal S2x16x128 .f32) (cache : Vec Ideal S2x2048x128 .f32)
    (p : Nat) (hp : p < 2) (hn : ∀ a, (![p, 0, 0] : Fin 3 → Nat) a + S1x16x128.size a ≤ S2x16x128.size a)
    (hc : ∀ a, (![p, 0, 0] : Fin 3 → Nat) a + S1x2048x128.size a ≤ S2x2048x128.size a) (x : (piece start new cache p hn hc).1.shape.Idx) :
    (piece start new cache p hn hc).2 x = block start new cache ((piece start new cache p hn hc).1.emb x) := by
  revert x
  unfold piece
  dsimp only
  intro x
  exact stored_eq_block start hs new cache p hp hn hc x

/-- Two stored planes, the second over the first: `block` at every index. -/
theorem canon_eq_block (start : BitVec 32) (hs : start.toNat < 2048) (new : Vec Ideal S2x16x128 .f32) (cache : Vec Ideal S2x2048x128 .f32)
    (hn1 hn0 hc1 hc0) (y : S2x2048x128.Idx)
    (hy : ∃ pc ∈ [piece start new cache 1 hn1 hc1, piece start new cache 0 hn0 hc0], y ∈ pc.1.set) :
    View.canon [piece start new cache 1 hn1 hc1, piece start new cache 0 hn0 hc0] y = block start new cache y := by
  refine View.canon_apply_of_pieces (Val := Elt Ideal) (S := S2x2048x128) (e := .f32) (block start new cache) _ ?_ y hy
  intro pc hpc x
  rw [List.mem_cons, List.mem_singleton] at hpc
  rcases hpc with h | h
  · subst h
    exact piece_eq_block start hs new cache 1 (by decide) hn1 hc1 x
  · subst h
    exact piece_eq_block start hs new cache 0 (by decide) hn0 hc0 x

variable (c : Dev nD) (i : grid0.Coords) (arg2 : Memref sig .tc .vmem S2x2048x128 .f32) (harg2 : arg2.IsWhole)
  (arg3 : Memref sig .tc .vmem S2x2048x128 .f32) (harg3 : arg3.IsWhole) (arg4 : Memref sig .tc .vmem S2x16x128 .f32) (harg4 : arg4.IsWhole)
  (arg5 : Memref sig .tc .vmem S2x16x128 .f32) (harg5 : arg5.IsWhole) (arg6 : Memref sig .tc .vmem S2x2048x128 .f32) (harg6 : arg6.IsWhole)
  (arg7 : Memref sig .tc .vmem S2x2048x128 .f32) (harg7 : arg7.IsWhole)
  (x0 : Vec Ideal S2x2048x128 .f32) (x1 : Vec Ideal S2x2048x128 .f32) (x2 : Vec Ideal S2x16x128 .f32) (x3 : Vec Ideal S2x16x128 .f32)
  (xt0 : TbBuf0 (F := Ideal) c tbM0_0)

/-- The table has one index. -/
instance : Subsingleton S1.Idx := ⟨fun x y => funext fun a => by
  obtain rfl : a = 0 := Subsingleton.elim (α := Fin 1) _ _
  exact Subsingleton.elim (α := Fin 1) _ _⟩

/-- The one word of the prefetched table. -/
def startWord : BitVec 32 := (xt0 : S1.Idx → BitVec 32) (ix1 (0 : Fin 1))

/-- The first result block (the keys') is `block` of the keys' cache block and the new keys' block. -/
theorem keys_eq (hs : (startWord c xt0).toNat < 2048) :
    out0_A_4 c i arg2 harg2 arg3 harg3 arg4 harg4 arg5 harg5 arg6 harg6 arg7 harg7 x0 x1 x2 x3 xt0 = block (startWord c xt0) x2 x0 := by
  funext y
  have hcov := cover0_A_4 c i arg2 harg2 arg3 harg3 arg4 harg4 arg5 harg5 arg6 harg6 arg7 harg7 x0 x1 x2 x3 xt0
  unfold out0_A_4
  rw [View.read_writes_eq_canon _ _ _ hcov]
  have e : (kernelRun0_A c i arg2 harg2 arg3 harg3 arg4 harg4 arg5 harg5 arg6 harg6 arg7 harg7 x0 x1 x2 x3 xt0).1
      = [piece (startWord c xt0) x2 x0 1 inb_S2x16x128_S1x16x128_1_0_0 inb_S2x2048x128_S1x2048x128_1_0_0,
        piece (startWord c xt0) x2 x0 0 inb_S2x16x128_S1x16x128_0_0_0 inb_S2x2048x128_S1x2048x128_0_0_0] := by
    unfold kernelRun0_A
    dsimp only
    sl_unfold_words
    simp only [View.readAt_eq_ld, harg2.read_unread, harg4.read_unread]
    have hw : ∀ h, View.ld (View.read (Elt Ideal) (View.whole main_v5) xt0) (Rect.unit (s := S1) ![0] ![1] inb_S1_S1_0) (Shape.Idx.first h)
        = startWord c xt0 := fun h => congrArg (xt0 : S1.Idx → BitVec 32) (Subsingleton.elim (α := S1.Idx) _ _)
    rw [hw]
    rfl
  have hy := hcov y
  rw [e] at hy ⊢
  exact canon_eq_block (startWord c xt0) hs x2 x0 _ _ _ _ y hy

/-- The second result block (the values') is `block` of the values' cache block and the new values' block. -/
theorem values_eq (hs : (startWord c xt0).toNat < 2048) :
    out0_A_5 c i arg2 harg2 arg3 harg3 arg4 harg4 arg5 harg5 arg6 harg6 arg7 harg7 x0 x1 x2 x3 xt0 = block (startWord c xt0) x3 x1 := by
  funext y
  have hcov := cover0_A_5 c i arg2 harg2 arg3 harg3 arg4 harg4 arg5 harg5 arg6 harg6 arg7 harg7 x0 x1 x2 x3 xt0
  unfold out0_A_5
  rw [View.read_writes_eq_canon _ _ _ hcov]
  have e : (kernelRun0_A c i arg2 harg2 arg3 harg3 arg4 harg4 arg5 harg5 arg6 harg6 arg7 harg7 x0 x1 x2 x3 xt0).2.1
      = [piece (startWord c xt0) x3 x1 1 inb_S2x16x128_S1x16x128_1_0_0 inb_S2x2048x128_S1x2048x128_1_0_0,
        piece (startWord c xt0) x3 x1 0 inb_S2x16x128_S1x16x128_0_0_0 inb_S2x2048x128_S1x2048x128_0_0_0] := by
    unfold kernelRun0_A
    dsimp only
    sl_unfold_words
    simp only [View.readAt_eq_ld, harg3.read_unread, harg5.read_unread]
    have hw : ∀ h, View.ld (View.read (Elt Ideal) (View.whole main_v5) xt0) (Rect.unit (s := S1) ![0] ![1] inb_S1_S1_0) (Shape.Idx.first h)
        = startWord c xt0 := fun h => congrArg (xt0 : S1.Idx → BitVec 32) (Subsingleton.elim (α := S1.Idx) _ _)
    rw [hw]
    rfl
  have hy := hcov y
  rw [e] at hy ⊢
  exact canon_eq_block (startWord c xt0) hs x3 x1 _ _ _ _ y hy

end Cert.KernelBlock

end
-- ==== Proof.Array.lean ====
/-
  What the kernel's two result arrays hold when its grid has run, over the extended reals.

  Point `t` of the 64 points owns planes `2 t` and `2 t + 1` of every array, so every result plane is written by exactly one
  point, and a result array is ONE function (`merged`) of the start word, of the new rows' array and of the cache's array.
-/
module

public import proofs.«01_k».proof.Proof.Block
public import proofs.«01_k».proof.Proof.Gen.KernelIdeal.Points

@[expose] public section

noncomputable section

namespace Cert.KernelArray

open Idealize.ShloMosaic Idealize.ShloMosaic.TcCoe Idealize.ShloMosaic.ValueIdx
open Cert.KernelIdeal Cert.KernelIdeal.Gen Cert.KernelPayload Cert.KernelBlock

/-- A result array: at each of its 128 planes, the merge of that plane's new rows and cache. -/
def merged (start : BitVec 32) (new : (⟨3, ![128, 16, 128]⟩ : Shape).Idx → EReal) (cache : (⟨3, ![128, 2048, 128]⟩ : Shape).Idx → EReal)
    (i : (⟨3, ![128, 2048, 128]⟩ : Shape).Idx) : EReal :=
  plane start (fun j => new (ix3 (i 0) (j 0) (j 1))) (fun j => cache (ix3 (i 0) (j 0) (j 1))) (i 1) (i 2)

/-- Every window's block index at point `t` is `(t, 0, 0)`. -/
theorem maps : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = t.val ∧ cc0_transform_2 (grid0.coords t) 1 = 0 ∧ cc0_transform_2 (grid0.coords t) 2 = 0)
    ∧ (cc0_transform_3 (grid0.coords t) 0 = t.val ∧ cc0_transform_3 (grid0.coords t) 1 = 0 ∧ cc0_transform_3 (grid0.coords t) 2 = 0)
    ∧ (cc0_transform_4 (grid0.coords t) 0 = t.val ∧ cc0_transform_4 (grid0.coords t) 1 = 0 ∧ cc0_transform_4 (grid0.coords t) 2 = 0)
    ∧ (cc0_transform_5 (grid0.coords t) 0 = t.val ∧ cc0_transform_5 (grid0.coords t) 1 = 0 ∧ cc0_transform_5 (grid0.coords t) 2 = 0) := by
  decide +kernel

/-- Block 0 of any size starts at 0. -/
theorem zero_block (k x : Nat) : 0 * k + x = x := by rw [Nat.zero_mul, Nat.zero_add]

variable (m : (ℓ : Loc nD τ sig) → Buf (Elt Ideal) ℓ) (hO : Ok m) (c : Dev nD)

/-- Point `t`'s plane `p` of an array's 128. -/
def planeAt (t : Fin (cfgM m hO).N) (p : Fin 2) : Fin 128 :=
  ⟨t.val * 2 + p.val, by
    have h : t.val < 64 := lt_of_lt_of_eq (show t.val < grid0.N from t.isLt) (by decide)
    have := p.isLt; omega⟩

/-- Point `t`'s block of the keys' cache. -/
theorem keyCache_blk (t : Fin (cfgM m hO).N) (p : Fin 2) (a : Fin 2048) (b : Fin 128) :
    (iblk m hO c 0 t : S2x2048x128.Idx → EReal) (ix3 p a b) = (V m c main_v2 : S128x2048x128.Idx → EReal) (ix3 (planeAt m hO t p) a b) := by
  obtain ⟨e0, e1, e2⟩ := (maps t).1
  refine congrArg (V m c main_v2 : S128x2048x128.Idx → EReal) (funext fun d => Fin.ext ?_)
  refine (((cfgM m hO).win 0).rect_emb_val t (ix3 p a b) d).trans ?_
  match d with
  | ⟨0, _⟩ => exact congrArg (fun n => n * 2 + p.val) e0
  | ⟨1, _⟩ => exact (congrArg (fun n => n * 2048 + a.val) e1).trans (zero_block _ _)
  | ⟨2, _⟩ => exact (congrArg (fun n => n * 128 + b.val) e2).trans (zero_block _ _)

/-- Point `t`'s block of the values' cache. -/
theorem valueCache_blk (t : Fin (cfgM m hO).N) (p : Fin 2) (a : Fin 2048) (b : Fin 128) :
    (iblk m hO c 1 t : S2x2048x128.Idx → EReal) (ix3 p a b) = (V m c main_v3 : S128x2048x128.Idx → EReal) (ix3 (planeAt m hO t p) a b) := by
  obtain ⟨e0, e1, e2⟩ := (maps t).2.1
  refine congrArg (V m c main_v3 : S128x2048x128.Idx → EReal) (funext fun d => Fin.ext ?_)
  refine (((cfgM m hO).win 1).rect_emb_val t (ix3 p a b) d).trans ?_
  match d with
  | ⟨0, _⟩ => exact congrArg (fun n => n * 2 + p.val) e0
  | ⟨1, _⟩ => exact (congrArg (fun n => n * 2048 + a.val) e1).trans (zero_block _ _)
  | ⟨2, _⟩ => exact (congrArg (fun n => n * 128 + b.val) e2).trans (zero_block _ _)

/-- Point `t`'s block of the new keys. -/
theorem keyNew_blk (t : Fin (cfgM m hO).N) (p : Fin 2) (a : Fin 16) (b : Fin 128) :
    (iblk m hO c 2 t : S2x16x128.Idx → EReal) (ix3 p a b) = (V m c main_v0 : S128x16x128.Idx → EReal) (ix3 (planeAt m hO t p) a b) := by
  obtain ⟨e0, e1, e2⟩ := (maps t).2.2.1
  refine congrArg (V m c main_v0 : S128x16x128.Idx → EReal) (funext fun d => Fin.ext ?_)
  refine (((cfgM m hO).win 2).rect_emb_val t (ix3 p a b) d).trans ?_
  match d with
  | ⟨0, _⟩ => exact congrArg (fun n => n * 2 + p.val) e0
  | ⟨1, _⟩ => exact (congrArg (fun n => n * 16 + a.val) e1).trans (zero_block _ _)
  | ⟨2, _⟩ => exact (congrArg (fun n => n * 128 + b.val) e2).trans (zero_block _ _)

/-- Point `t`'s block of the new values. -/
theorem valueNew_blk (t : Fin (cfgM m hO).N) (p : Fin 2) (a : Fin 16) (b : Fin 128) :
    (iblk m hO c 3 t : S2x16x128.Idx → EReal) (ix3 p a b) = (V m c main_v1 : S128x16x128.Idx → EReal) (ix3 (planeAt m hO t p) a b) := by
  obtain ⟨e0, e1, e2⟩ := (maps t).2.2.2.1
  refine congrArg (V m c main_v1 : S128x16x128.Idx → EReal) (funext fun d => Fin.ext ?_)
  refine (((cfgM m hO).win 3).rect_emb_val t (ix3 p a b) d).trans ?_
  match d with
  | ⟨0, _⟩ => exact congrArg (fun n => n * 2 + p.val) e0
  | ⟨1, _⟩ => exact (congrArg (fun n => n * 16 + a.val) e1).trans (zero_block _ _)
  | ⟨2, _⟩ => exact (congrArg (fun n => n * 128 + b.val) e2).trans (zero_block _ _)

/-- A block of the merge is the merge of the blocks: `block` at plane `p` is `merged` at the plane of the arrays that is `p` in the block. -/
theorem block_eq_merged (start : BitVec 32) (new : S2x16x128.Idx → EReal) (cache : S2x2048x128.Idx → EReal)
    (New : S128x16x128.Idx → EReal) (Cache : S128x2048x128.Idx → EReal) (y : S2x2048x128.Idx) (i : S128x2048x128.Idx) (r : Fin 128)
    (hn : ∀ a b, new (ix3 (y 0) a b) = New (ix3 r a b)) (hc : ∀ a b, cache (ix3 (y 0) a b) = Cache (ix3 r a b))
    (hi : i = ix3 r (y 1) (y 2)) : block start new cache y = merged start New Cache i := by
  subst hi
  unfold block merged
  congr 1
  · exact funext fun j => hn (j 0) (j 1)
  · exact funext fun j => hc (j 0) (j 1)

/-- Where point `t`'s block of the first result lies. -/
theorem emb4 (t : Fin (cfgM m hO).N) (y : S2x2048x128.Idx) :
    ((((cfgM m hO).win 4).blk t).view.emb y : S128x2048x128.Idx) = ix3 (planeAt m hO t (y 0)) (y 1) (y 2) := by
  obtain ⟨e0, e1, e2⟩ := (maps t).2.2.2.2.1
  refine funext fun d => Fin.ext ?_
  refine (((cfgM m hO).win 4).rect_emb_val t y d).trans ?_
  match d with
  | ⟨0, _⟩ => exact congrArg (fun n => n * 2 + (y 0).val) e0
  | ⟨1, _⟩ => exact (congrArg (fun n => n * 2048 + (y 1).val) e1).trans (zero_block _ _)
  | ⟨2, _⟩ => exact (congrArg (fun n => n * 128 + (y 2).val) e2).trans (zero_block _ _)

/-- Where point `t`'s block of the second result lies. -/
theorem emb5 (t : Fin (cfgM m hO).N) (y : S2x2048x128.Idx) :
    ((((cfgM m hO).win 5).blk t).view.emb y : S128x2048x128.Idx) = ix3 (planeAt m hO t (y 0)) (y 1) (y 2) := by
  obtain ⟨e0, e1, e2⟩ := (maps t).2.2.2.2.2
  refine funext fun d => Fin.ext ?_
  refine (((cfgM m hO).win 5).rect_emb_val t y d).trans ?_
  match d with
  | ⟨0, _⟩ => exact congrArg (fun n => n * 2 + (y 0).val) e0
  | ⟨1, _⟩ => exact (congrArg (fun n => n * 2048 + (y 1).val) e1).trans (zero_block _ _)
  | ⟨2, _⟩ => exact (congrArg (fun n => n * 128 + (y 2).val) e2).trans (zero_block _ _)

/-- The start word: the prefetched table's one word. -/
def start : BitVec 32 := startWord c (tbl m 0)

/-- What the first result array is shown to hold. -/
def keysOut : S128x2048x128.Idx → EReal := merged (start m c) (V m c main_v0) (V m c main_v2)

/-- What the second result array is shown to hold. -/
def valuesOut : S128x2048x128.Idx → EReal := merged (start m c) (V m c main_v1) (V m c main_v3)

/-- What the body leaves of the first result at point `t`: the merge of the blocks it reads. -/
theorem after4 (hs : (start m c).toNat < 2048) (t : Fin (cfgM m hO).N) :
    (dats m hO 0 c).after 4 t = block (start m c) (iblk m hO c 2 t) (iblk m hO c 0 t) := by
  rw [after0_4]
  unfold outsAt0
  dsimp only
  exact keys_eq c _ _ _ _ _ _ _ _ _ _ _ _ _ _ _ _ _ _ hs

/-- The merge of the blocks point `t` reads, at an index: `keysOut` at the index's place in the array. -/
theorem written4 (t : Fin (cfgM m hO).N) (y : S2x2048x128.Idx) :
    block (start m c) (iblk m hO c 2 t) (iblk m hO c 0 t) y = keysOut m c (((cfgM m hO).win 4).blk t |>.view.emb y) :=
  block_eq_merged (start m c) _ _ _ _ y _ (planeAt m hO t (y 0)) (keyNew_blk m hO c t (y 0)) (keyCache_blk m hO c t (y 0)) (emb4 m hO t y)

/-- A block equal, index by index, to an array read through point `t`'s block is that block of the array. -/
theorem cut_eq_read4 (t : Fin (cfgM m hO).N) (X : S2x2048x128.Idx → EReal) (G : S128x2048x128.Idx → EReal)
    (h : ∀ y : S2x2048x128.Idx, X y = G (((cfgM m hO).win 4).blk t |>.view.emb y)) :
    ((cfgM m hO).win 4).cut (grid0.coords t) X = (((cfgM m hO).win 4).blk t).view.read (Elt Ideal) G :=
  funext fun y => h y

/-- What point `t` writes back of the first result is its block of `keysOut`. -/
theorem flushed4 (hs : (start m c).toNat < 2048) (t : Fin (cfgM m hO).N) :
    (dats m hO 0 c).flushed 4 t = (((cfgM m hO).win 4).blk t).view.read (Elt Ideal) (keysOut m c) := by
  show ((cfgM m hO).win 4).cut (grid0.coords t) ((dats m hO 0 c).after 4 t) = _
  rw [after4 m hO c hs t]
  exact cut_eq_read4 m hO t _ _ (written4 m hO c t)

/-- What the body leaves of the second result at point `t`: the merge of the blocks it reads. -/
theorem after5 (hs : (start m c).toNat < 2048) (t : Fin (cfgM m hO).N) :
    (dats m hO 0 c).after 5 t = block (start m c) (iblk m hO c 3 t) (iblk m hO c 1 t) := by
  rw [after0_5]
  unfold outsAt0
  dsimp only
  exact values_eq c _ _ _ _ _ _ _ _ _ _ _ _ _ _ _ _ _ _ hs

/-- The merge of the blocks point `t` reads, at an index: `valuesOut` at the index's place in the array. -/
theorem written5 (t : Fin (cfgM m hO).N) (y : S2x2048x128.Idx) :
    block (start m c) (iblk m hO c 3 t) (iblk m hO c 1 t) y = valuesOut m c (((cfgM m hO).win 5).blk t |>.view.emb y) :=
  block_eq_merged (start m c) _ _ _ _ y _ (planeAt m hO t (y 0)) (valueNew_blk m hO c t (y 0)) (valueCache_blk m hO c t (y 0)) (emb5 m hO t y)

/-- A block equal, index by index, to an array read through point `t`'s block is that block of the array. -/
theorem cut_eq_read5 (t : Fin (cfgM m hO).N) (X : S2x2048x128.Idx → EReal) (G : S128x2048x128.Idx → EReal)
    (h : ∀ y : S2x2048x128.Idx, X y = G (((cfgM m hO).win 5).blk t |>.view.emb y)) :
    ((cfgM m hO).win 5).cut (grid0.coords t) X = (((cfgM m hO).win 5).blk t).view.read (Elt Ideal) G :=
  funext fun y => h y

/-- What point `t` writes back of the second result is its block of `valuesOut`. -/
theorem flushed5 (hs : (start m c).toNat < 2048) (t : Fin (cfgM m hO).N) :
    (dats m hO 0 c).flushed 5 t = (((cfgM m hO).win 5).blk t).view.read (Elt Ideal) (valuesOut m c) := by
  show ((cfgM m hO).win 5).cut (grid0.coords t) ((dats m hO 0 c).after 5 t) = _
  rw [after5 m hO c hs t]
  exact cut_eq_read5 m hO t _ _ (written5 m hO c t)

/-- The point that owns plane `i 0`, and the index within its block. -/
theorem point_of (i : S128x2048x128.Idx) :
    ∃ (t : Fin (cfgM m hO).N) (y : S2x2048x128.Idx), ix3 (planeAt m hO t (y 0)) (y 1) (y 2) = i := by
  have h0 : (i 0).val < 128 := (i 0).isLt
  have hN : (cfgM m hO).N = 64 := (by decide : grid0.N = 64)
  refine ⟨⟨(i 0).val / 2, by omega⟩, ix3 (⟨(i 0).val % 2, by omega⟩ : Fin 2) (i 1) (i 2), ?_⟩
  funext d
  match d with
  | ⟨0, _⟩ => exact Fin.ext (by show (i 0).val / 2 * 2 + (i 0).val % 2 = (i 0).val; omega)
  | ⟨1, _⟩ => rfl
  | ⟨2, _⟩ => rfl

/-- The first result array after the grid. -/
theorem final4 (hs : (start m c).toNat < 2048) : (dats m hO 0 c).arrAt 4 (cfgM m hO).N = keysOut m c := by
  refine (dats m hO 0 c).arrAt_eq_of_cover 4 (keysOut m c) (fun t _ => flushed4 m hO c hs t) fun i => ?_
  obtain ⟨t, y, e⟩ := point_of m hO i
  refine ⟨t, flush0_4 (adm m hO) t, ?_⟩
  rw [← e, ← emb4 m hO t y]
  exact View.emb_mem_set _ y

/-- The second result array after the grid. -/
theorem final5 (hs : (start m c).toNat < 2048) : (dats m hO 0 c).arrAt 5 (cfgM m hO).N = valuesOut m c := by
  refine (dats m hO 0 c).arrAt_eq_of_cover 5 (valuesOut m c) (fun t _ => flushed5 m hO c hs t) fun i => ?_
  obtain ⟨t, y, e⟩ := point_of m hO i
  refine ⟨t, flush0_5 (adm m hO) t, ?_⟩
  rw [← e, ← emb5 m hO t y]
  exact View.emb_mem_set _ y

end Cert.KernelArray

end
-- ==== Proof.Updated.lean ====
/-
  The common value of the two programs: a cache of 16 × 8 rings of 2048 rows, with 16 new rows written from the position on.
-/
module

public import proofs.«01_k».proof.Proof.Words

@[expose] public section

noncomputable section

namespace Cert.RingUpdate

open Idealize.ShloMosaic Idealize.ShloMosaic.ValueIdx Cert.RingWords

/-- The cache with the new rows written: a row fewer than 16 rows ahead of the position (going round the ring) is that new row,
    every other row is the cache's. -/
def updated (pos : BitVec 32) (new : (⟨4, ![16, 8, 16, 128]⟩ : Shape).Idx → EReal) (cache : (⟨4, ![16, 8, 2048, 128]⟩ : Shape).Idx → EReal)
    (i : (⟨4, ![16, 8, 2048, 128]⟩ : Shape).Idx) : EReal :=
  if h : ahead pos (i 2).val < 16 then new (ix4 (i 0) (i 1) ⟨ahead pos (i 2).val, h⟩ (i 3)) else cache i

end Cert.RingUpdate

end
-- ==== Proof.Host.lean ====
/-
  The kernel program around its grid, over the extended reals: the reshapes before it, the start word, the reshapes after it; and
  the whole program's run, each result the updated ring buffer (`RingUpdate.updated`) of its arguments.
-/
module

public import proofs.«01_k».proof.Proof.Array
public import proofs.«01_k».proof.Proof.Updated
public import Idealize.ShloMosaic.Lib.StableHlo.Run

@[expose] public section

noncomputable section

namespace Cert.KernelHost

open Idealize.ShloMosaic Idealize.ShloMosaic.TcCoe Idealize.ShloMosaic.ValueIdx Idealize.ShloMosaic.StableHlo Idealize.SL.Sem
open Cert.KernelIdeal Cert.KernelIdeal.Gen Cert.KernelPayload Cert.KernelBlock Cert.KernelArray Cert.RingWords Cert.RingUpdate

variable (m : (ℓ : Loc nD τ sig) → Buf (Elt Ideal) ℓ) (ρ : Dev nD → PrngReg) (c : Dev nD)

/-- The grid finds the new keys reshaped. -/
theorem V_keyNew : V m c main_v0 = shapeCast S128x16x128 (m ((c : Thread nD τ).loc main_arg0)) shapeCasts_S16x8x16x128_S128x16x128 := by
  show StableHlo.after _ _ _ = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The grid finds the new values reshaped. -/
theorem V_valueNew : V m c main_v1 = shapeCast S128x16x128 (m ((c : Thread nD τ).loc main_arg1)) shapeCasts_S16x8x16x128_S128x16x128 := by
  show StableHlo.after _ _ _ = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The grid finds the keys' cache reshaped. -/
theorem V_keyCache : V m c main_v2 = shapeCast S128x2048x128 (m ((c : Thread nD τ).loc main_arg2)) shapeCasts_S16x8x2048x128_S128x2048x128 := by
  show StableHlo.after _ _ _ = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The grid finds the values' cache reshaped. -/
theorem V_valueCache : V m c main_v3 = shapeCast S128x2048x128 (m ((c : Thread nD τ).loc main_arg3)) shapeCasts_S16x8x2048x128_S128x2048x128 := by
  show StableHlo.after _ _ _ = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

/-- The position: the program's last argument, one word. -/
def pos : BitVec 32 := (m ((c : Thread nD τ).loc main_arg4) : S_.Idx → BitVec 32) (fun a => a.elim0)

/-- The prefetched table holds the position modulo 2048. -/
theorem V_table : (V m c main_v5 : S1.Idx → BitVec 32) (ix1 (0 : Fin 1)) = floorMod (pos m c) := by
  have e : V m c main_v5 = shapeCast S1 (fun _ : S_.Idx => floorMod (pos m c)) shapeCasts_S_S1 := by
    show StableHlo.after _ _ _ = _
    simp only [hostOps0, hostOps0_1, hostOps0_2, List.flatten_cons, List.flatten_nil, List.append_nil, List.cons_append, List.nil_append,
      TRef.binary, TRef.nullary, TRef.ternary, TRef.unary, TRef.toBuf, TRef.ofBuf, cast_eq]
    after_results_simp
    funext j
    refine (shapeCast_apply _ _ j (fun a => a.elim0) ?_).trans ?_
    · exact (Nat.lt_one_iff.1 (Fin.isLt _)).trans (Nat.lt_one_iff.1 (Fin.isLt _)).symm
    · rfl
  rw [e]
  rfl

/-- So the start word is the position modulo 2048. -/
theorem start_eq : start m c = floorMod (pos m c) := by
  obtain rfl : c = 0 := Subsingleton.elim _ _
  exact V_table m 0

/-- It is below 2048. -/
theorem start_lt : (start m c).toNat < 2048 := by
  rw [start_eq, toNat_floorMod]; omega

/-- The new rows reshaped, at an index: planes `(b, g)` of 16 × 8 are the 128 planes in order. -/
theorem foldNew_apply (x : S16x8x16x128.Idx → EReal) (b : Fin 16) (g : Fin 8) (r : Fin 128) (hr : r.val = b.val * 8 + g.val) (a : Fin 16) (d : Fin 128) :
    shapeCast S128x16x128 x shapeCasts_S16x8x16x128_S128x16x128 (ix3 r a d) = x (ix4 b g a d) := by
  refine shapeCast_apply x _ (ix3 r a d) (ix4 b g a d) ?_
  rw [Shape.rowMajor_val_four, Shape.rowMajor_val_three]
  show ((b.val * 8 + g.val) * 16 + a.val) * 128 + d.val = (r.val * 16 + a.val) * 128 + d.val
  rw [hr]

/-- The cache reshaped, at an index. -/
theorem foldCache_apply (x : S16x8x2048x128.Idx → EReal) (b : Fin 16) (g : Fin 8) (r : Fin 128) (hr : r.val = b.val * 8 + g.val) (a : Fin 2048) (d : Fin 128) :
    shapeCast S128x2048x128 x shapeCasts_S16x8x2048x128_S128x2048x128 (ix3 r a d) = x (ix4 b g a d) := by
  refine shapeCast_apply x _ (ix3 r a d) (ix4 b g a d) ?_
  rw [Shape.rowMajor_val_four, Shape.rowMajor_val_three]
  show ((b.val * 8 + g.val) * 2048 + a.val) * 128 + d.val = (r.val * 2048 + a.val) * 128 + d.val
  rw [hr]

/-- A result reshaped back, at an index. -/
theorem unfold_apply (y : S128x2048x128.Idx → EReal) (b : Fin 16) (g : Fin 8) (r : Fin 128) (hr : r.val = b.val * 8 + g.val) (a : Fin 2048) (d : Fin 128) :
    shapeCast S16x8x2048x128 y shapeCasts_S128x2048x128_S16x8x2048x128 (ix4 b g a d) = y (ix3 r a d) := by
  refine shapeCast_apply y _ (ix4 b g a d) (ix3 r a d) ?_
  rw [Shape.rowMajor_val_four, Shape.rowMajor_val_three]
  show (r.val * 2048 + a.val) * 128 + d.val = ((b.val * 8 + g.val) * 2048 + a.val) * 128 + d.val
  rw [hr]

/-- The merge of reshaped arrays at the position's start word, reshaped back, is the updated ring buffer. -/
theorem merged_eq_updated (p : BitVec 32) (new : S16x8x16x128.Idx → EReal) (cache : S16x8x2048x128.Idx → EReal) :
    shapeCast S16x8x2048x128 (merged (floorMod p) (shapeCast S128x16x128 new shapeCasts_S16x8x16x128_S128x16x128)
      (shapeCast S128x2048x128 cache shapeCasts_S16x8x2048x128_S128x2048x128)) shapeCasts_S128x2048x128_S16x8x2048x128
      = updated p new cache := by
  funext i
  obtain ⟨b, g, row, d, rfl⟩ : ∃ (b : Fin 16) (g : Fin 8) (row : Fin 2048) (d : Fin 128), i = ix4 b g row d :=
    ⟨i 0, i 1, i 2, i 3, funext fun a => match a with | ⟨0, _⟩ => rfl | ⟨1, _⟩ => rfl | ⟨2, _⟩ => rfl | ⟨3, _⟩ => rfl⟩
  have hr : b.val * 8 + g.val < 128 := by have := b.isLt; have := g.isLt; omega
  rw [unfold_apply _ b g ⟨b.val * 8 + g.val, hr⟩ rfl row d]
  have ed : (dist (floorMod p) row.val).toNat = ahead p row.val := toNat_dist_floorMod p row.val row.isLt
  unfold merged plane updated
  by_cases h : ahead p row.val < 16
  · refine (dif_pos (ed ▸ h)).trans (Eq.trans ?_ (dif_pos h).symm)
    refine (foldNew_apply new b g ⟨b.val * 8 + g.val, hr⟩ rfl ⟨(dist (floorMod p) row.val).toNat, ed ▸ h⟩ d).trans ?_
    exact congrArg (fun a => new (ix4 b g a d)) (Fin.ext ed)
  · refine (dif_neg (fun h' => h (ed ▸ h'))).trans (Eq.trans ?_ (dif_neg h).symm)
    exact foldCache_apply cache b g ⟨b.val * 8 + g.val, hr⟩ rfl row d

variable (hO : Ok m)

/-- The program's first result is the first result array reshaped. -/
theorem tail_keys : Pipeline.afterTail pcfgs (fun _ => adm m hO) (dats m hO) 0 (V0 m) [hostOps1] c main_v7
    = shapeCast S16x8x2048x128 ((dats m hO 0 c).arrAt 4 (cfgM m hO).N) shapeCasts_S128x2048x128_S16x8x2048x128 := by
  unfold Pipeline.afterTail
  simp only [hostOps1, List.flatten_cons, List.flatten_nil, List.append_nil]
  after_results_simp
  exact congrArg (fun y => shapeCast S16x8x2048x128 y shapeCasts_S128x2048x128_S16x8x2048x128)
    (Pipeline.withArrays_arr spec0 (by decide) c (V0 m c) (fun w => (dats m hO 0 c).arrAt w (cfgM m hO).N) 4)

/-- The program's second result is the second result array reshaped. -/
theorem tail_values : Pipeline.afterTail pcfgs (fun _ => adm m hO) (dats m hO) 0 (V0 m) [hostOps1] c main_v8
    = shapeCast S16x8x2048x128 ((dats m hO 0 c).arrAt 5 (cfgM m hO).N) shapeCasts_S128x2048x128_S16x8x2048x128 := by
  unfold Pipeline.afterTail
  simp only [hostOps1, List.flatten_cons, List.flatten_nil, List.append_nil]
  after_results_simp
  exact congrArg (fun y => shapeCast S16x8x2048x128 y shapeCasts_S128x2048x128_S16x8x2048x128)
    (Pipeline.withArrays_arr spec0 (by decide) c (V0 m c) (fun w => (dats m hO 0 c).arrAt w (cfgM m hO).N) 5)

/-- What the kernel program's first result is: the keys' cache updated. -/
def keysResult : Buf (Elt Ideal) ((c : Thread nD τ).loc main_v7) :=
  updated (pos m c) (m ((c : Thread nD τ).loc main_arg0)) (m ((c : Thread nD τ).loc main_arg2))

/-- What the kernel program's second result is: the values' cache updated. -/
def valuesResult : Buf (Elt Ideal) ((c : Thread nD τ).loc main_v8) :=
  updated (pos m c) (m ((c : Thread nD τ).loc main_arg1)) (m ((c : Thread nD τ).loc main_arg3))

/-- The first result after the program. -/
theorem keys_final : Pipeline.afterTail pcfgs (fun _ => adm m hO) (dats m hO) 0 (V0 m) [hostOps1] c main_v7 = keysResult m c := by
  rw [tail_keys, final4 m hO c (start_lt m c)]
  unfold keysOut keysResult
  rw [start_eq, V_keyNew, V_keyCache]
  exact merged_eq_updated (pos m c) _ _

/-- The second result after the program. -/
theorem values_final : Pipeline.afterTail pcfgs (fun _ => adm m hO) (dats m hO) 0 (V0 m) [hostOps1] c main_v8 = valuesResult m c := by
  rw [tail_values, final5 m hO c (start_lt m c)]
  unfold valuesOut valuesResult
  rw [start_eq, V_valueNew, V_valueCache]
  exact merged_eq_updated (pos m c) _ _

/-- The kernel program's run: both results are the updated ring buffers and the arguments end unchanged. -/
theorem run : θ_run defs (onTc (τ := τ) (main (F := Ideal))) ⟨m, fun _ => 0, ρ⟩ fun r => ∀ c : Dev nD,
      r.2.mem ((c.tc : Thread nD τ).loc main_v7) = keysResult m c
      ∧ r.2.mem ((c.tc : Thread nD τ).loc main_v8) = valuesResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (by decide : main_v7 ∈ Pipeline.restRefs sig spec0)).trans (keys_final m c trivial),
      ((h c).2 main_v8 (by decide : main_v8 ∈ Pipeline.restRefs sig spec0)).trans (values_final m c trivial),
      ((h c).2 main_arg0 (by decide : main_arg0 ∈ Pipeline.restRefs sig spec0)).trans (W_main_arg0 m trivial (dats m trivial) c),
      ((h c).2 main_arg1 (by decide : main_arg1 ∈ Pipeline.restRefs sig spec0)).trans (W_main_arg1 m trivial (dats m trivial) c),
      ((h c).2 main_arg2 (by decide : main_arg2 ∈ Pipeline.restRefs sig spec0)).trans (W_main_arg2 m trivial (dats m trivial) c),
      ((h c).2 main_arg3 (by decide : main_arg3 ∈ Pipeline.restRefs sig spec0)).trans (W_main_arg3 m trivial (dats m trivial) c),
      ((h c).2 main_arg4 (by decide : main_arg4 ∈ Pipeline.restRefs sig spec0)).trans (W_main_arg4 m trivial (dats m trivial) c)⟩)
    (run_main m ρ trivial)

end Cert.KernelHost

end
-- ==== Proof.Reference.lean ====
/-
  What the reference computes.  Its scatter writes new row `i` of every plane at row `(position + i) % 2048`; the sixteen rows are
  distinct, so an element read from the result is either the one new row that landed there or the cache's own element.
-/
module

public import proofs.«01_k».proof.Proof.Updated
public import proofs.«01_k».proof.Proof.Gen.ReferenceIdeal.Run
public import Idealize.ShloMosaic.Lib.Routing.OpsSet
public import Idealize.ShloMosaic.Lib.Routing.OpsPair
public import Idealize.ShloMosaic.Lib.Pipeline.Value

@[expose] public section

noncomputable section

namespace Cert.ReferenceRing

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.Value Cert.RingWords Cert.RingUpdate

/-- The scatter's dimension numbers. -/
abbrev D := scatter_S16x8x2048x128_S16x1_S16x8x16x128_013_2_2_1

/-- The operand's axes that an update's window covers: all but the row axis. -/
theorem kept_eq : D.sKept = [0, 1, 3] := by decide

/-- The window coordinates of an update: its batch, group and column; none on the row axis. -/
theorem window_eq (b : Fin 16) (g : Fin 8) (i : Fin 16) (d : Fin 128) :
    D.window (ix4 b g i d) 0 = b.val ∧ D.window (ix4 b g i d) 1 = g.val ∧ D.window (ix4 b g i d) 2 = 0 ∧ D.window (ix4 b g i d) 3 = d.val := by
  refine ⟨?_, ?_, ?_, ?_⟩
  · unfold ScatterDims.window
    rw [dif_pos (by rw [kept_eq]; decide)]
    rfl
  · unfold ScatterDims.window
    rw [dif_pos (by rw [kept_eq]; decide)]
    rfl
  · unfold ScatterDims.window
    rw [dif_neg (by rw [kept_eq]; decide)]
  · unfold ScatterDims.window
    rw [dif_pos (by rw [kept_eq]; decide)]
    rfl

/-- An update's start: on the row axis its index word read signed, zero on the others. -/
theorem start_eq (idx : IVec S16x1 32) (b : Fin 16) (g : Fin 8) (i : Fin 16) (d : Fin 128) :
    D.start (ix4 b g i d) idx 0 = 0 ∧ D.start (ix4 b g i d) idx 1 = 0 ∧ D.start (ix4 b g i d) idx 2 = (idx (ix2 i 0)).toInt
      ∧ D.start (ix4 b g i d) idx 3 = 0 := by
  refine ⟨?_, ?_, ?_, ?_⟩
  · unfold ScatterDims.start
    rw [dif_neg (by decide)]
  · unfold ScatterDims.start
    rw [dif_neg (by decide)]
  · unfold ScatterDims.start
    rw [dif_pos (by decide)]
    refine congrArg (fun k => (idx k).toInt) (funext fun a => ?_)
    match a with
    | ⟨0, _⟩ => rfl
    | ⟨1, _⟩ => rfl
  · unfold ScatterDims.start
    rw [dif_neg (by decide)]

/-- An update lands at an element exactly when batch, group and column agree and its index word is the element's row. -/
theorem lands_iff (idx : IVec S16x1 32) (b b' : Fin 16) (g g' : Fin 8) (i : Fin 16) (row : Fin 2048) (d d' : Fin 128) :
    D.resultIdx? (ix4 b' g' i d') idx = some (ix4 b g row d)
      ↔ b' = b ∧ g' = g ∧ (idx (ix2 i 0)).toInt = (row.val : Int) ∧ d' = d := by
  obtain ⟨w0, w1, w2, w3⟩ := window_eq b' g' i d'
  obtain ⟨s0, s1, s2, s3⟩ := start_eq idx b' g' i d'
  have e : D.resultIdx? (ix4 b' g' i d') idx = some (ix4 b g row d)
      ↔ D.start (ix4 b' g' i d') idx 0 + (D.window (ix4 b' g' i d') 0 : Int) = (b.val : Int)
        ∧ D.start (ix4 b' g' i d') idx 1 + (D.window (ix4 b' g' i d') 1 : Int) = (g.val : Int)
        ∧ D.start (ix4 b' g' i d') idx 2 + (D.window (ix4 b' g' i d') 2 : Int) = (row.val : Int)
        ∧ D.start (ix4 b' g' i d') idx 3 + (D.window (ix4 b' g' i d') 3 : Int) = (d.val : Int) := by
    rw [Routing.resultIdx?_eq_some]
    constructor
    · intro h
      exact ⟨h 0, h 1, h 2, h 3⟩
    · intro h a
      match a with
      | ⟨0, _⟩ => exact h.1
      | ⟨1, _⟩ => exact h.2.1
      | ⟨2, _⟩ => exact h.2.2.1
      | ⟨3, _⟩ => exact h.2.2.2
  rw [e, w0, w1, w2, w3, s0, s1, s2, s3, Fin.ext_iff, Fin.ext_iff, Fin.ext_iff]
  omega

/-- The scatter whose index word of row `i` is the slot of `position + i`: the updated ring buffer. -/
theorem scatter_eq_updated (p : BitVec 32) (new : S16x8x16x128.Idx → EReal) (cache : S16x8x2048x128.Idx → EReal) :
    Host.scatter D (fun _ b => b) cache (fun j : S16x1.Idx => slot p (j 0).val) new = updated p new cache := by
  funext i
  obtain ⟨b, g, row, d, rfl⟩ : ∃ (b : Fin 16) (g : Fin 8) (row : Fin 2048) (d : Fin 128), i = ix4 b g row d :=
    ⟨i 0, i 1, i 2, i 3, eq_ix4 i⟩
  have lands : ∀ (b' : Fin 16) (g' : Fin 8) (i : Fin 16) (d' : Fin 128),
      D.resultIdx? (ix4 b' g' i d') (fun j : S16x1.Idx => slot p (j 0).val) = some (ix4 b g row d)
        ↔ b' = b ∧ g' = g ∧ ahead p row.val = i.val ∧ d' = d := fun b' g' i d' => by
    rw [lands_iff]
    show (b' = b ∧ g' = g ∧ (slot p i.val).toInt = (row.val : Int) ∧ d' = d) ↔ _
    rw [toInt_slot p i.val i.isLt, Int.ofNat_inj, slot_eq_iff p i.val row.val i.isLt row.isLt]
  have landed : ∀ k : S16x8x16x128.Idx, D.resultIdx? k (fun j : S16x1.Idx => slot p (j 0).val) = some (ix4 b g row d)
      → ∃ h : ahead p row.val < 16, k = ix4 b g ⟨ahead p row.val, h⟩ d := fun k hk => by
    obtain ⟨b', g', i, d', rfl⟩ : ∃ (b' : Fin 16) (g' : Fin 8) (i : Fin 16) (d' : Fin 128), k = ix4 b' g' i d' :=
      ⟨k 0, k 1, k 2, k 3, eq_ix4 k⟩
    obtain ⟨rfl, rfl, hi, rfl⟩ := (lands b' g' i d').1 hk
    have hlt : ahead p row.val < 16 := by rw [hi]; exact i.isLt
    exact ⟨hlt, congrArg (fun x => ix4 b' g' x d') (Fin.ext hi.symm)⟩
  unfold updated
  by_cases h : ahead p row.val < 16
  · refine Eq.trans ?_ (dif_pos h).symm
    refine Routing.scatter_set_hit D cache _ new _ _ (fun k hk => ?_) (ix4 b g ⟨ahead p row.val, h⟩ d)
      ((lands b g ⟨ahead p row.val, h⟩ d).2 ⟨rfl, rfl, rfl, rfl⟩)
    obtain ⟨_, rfl⟩ := landed k hk
    rfl
  · refine Eq.trans ?_ (dif_neg h).symm
    exact Routing.scatter_set_miss D cache _ new _ fun k hk => h (landed k hk).1

variable (m : (ℓ : Loc nD τ sig) → Buf (Elt Ideal) ℓ) (ρ : Dev nD → PrngReg) (c : Dev nD)

/-- The position, the reference's scalar argument. -/
def pos : BitVec 32 := (m ((c : Thread nD τ).loc main_arg4) : S_.Idx → BitVec 32) (fun a => a.elim0)

/-- The position broadcast over the sixteen rows is the position at each. -/
theorem broadcast_pos : broadcastInDim S16 ![] bcast_S_S16 (m ((c : Thread nD τ).loc main_arg4) : S_.Idx → BitVec 32) = fun _ => pos m c := by
  funext j
  exact broadcastInDim_apply _ _ _ j (fun a => a.elim0) (fun a => a.elim0)

/-- The reference's first result is the keys' cache updated. -/
theorem keys_eq : res_main_v10 m c
    = updated (pos m c) (m ((c : Thread nD τ).loc main_arg0)) (m ((c : Thread nD τ).loc main_arg2)) := by
  refine Eq.trans ?_ (scatter_eq_updated (pos m c) _ _)
  unfold res_main_v10
  rw [broadcast_pos]
  refine congrArg (fun x => Host.scatter D (fun _ b => b) _ x _) (funext fun j => ?_)
  refine (broadcastInDim_apply _ _ _ j (ix1 (j 0)) (fun a => by match a with | ⟨0, _⟩ => rfl)).trans ?_
  rfl

/-- The reference's second result is the values' cache updated. -/
theorem values_eq : res_main_v17 m c
    = updated (pos m c) (m ((c : Thread nD τ).loc main_arg1)) (m ((c : Thread nD τ).loc main_arg3)) := by
  refine Eq.trans ?_ (scatter_eq_updated (pos m c) _ _)
  unfold res_main_v17
  rw [broadcast_pos]
  refine congrArg (fun x => Host.scatter D (fun _ b => b) _ x _) (funext fun j => ?_)
  refine (broadcastInDim_apply _ _ _ j (ix1 (j 0)) (fun a => by match a with | ⟨0, _⟩ => rfl)).trans ?_
  rfl

end Cert.ReferenceRing

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Host
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged and every counter ends at zero: its program names no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From memories that agree on the arguments, both programs end with the updated ring buffers. -/
theorem results_equal : Cert.algebraic_KernelIdeal_ReferenceIdeal (hKernelIdeal := Cert.KernelIdeal.Gen.facts)
    (hReferenceIdeal := Cert.ReferenceIdeal.Gen.facts) := fun m ρ m' ρ' _ hargs => by
  refine ⟨fun c => Cert.KernelHost.keysResult m c, fun c => Cert.KernelHost.valuesResult m c, Cert.KernelHost.run m ρ, ?_⟩
  refine (θ_run Cert.ReferenceIdeal.defs _ _).mono (fun r h c => ?_) (Cert.ReferenceIdeal.Value.run (F := Ideal) m' ρ')
  obtain ⟨h0, h1, h2, h3, h4⟩ := hargs c
  have hp : Cert.ReferenceRing.pos m' c = Cert.KernelHost.pos m c := congrFun h4 _
  refine ⟨(h c).1.trans ((Cert.ReferenceRing.keys_eq m' c).trans ?_), (h c).2.1.trans ((Cert.ReferenceRing.values_eq m' c).trans ?_), (h c).2.2⟩
  · rw [hp, h0, h2]
    rfl
  · rw [hp, h1, h3]
    rfl

/-- Every claim of the certificate. -/
theorem claim : Cert.Claim := ⟨Cert.Kernel.Gen.facts, Cert.KernelIdeal.Gen.facts, Cert.ReferenceIdeal.Gen.facts,
  fun m ρ _ => Cert.Kernel.Gen.frame m ρ trivial,
  fun m ρ _ => Cert.KernelIdeal.Gen.frame m ρ trivial,
  reference_frame, trivial, results_equal⟩

end Cert.Proof

end
